-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x8 : Shape := ⟨3, ![4, 8192, 8]⟩
abbrev S4x8x8192 : Shape := ⟨3, ![4, 8, 8192]⟩
abbrev S1x32x8192 : Shape := ⟨3, ![1, 32, 8192]⟩
abbrev S1x32x128x128 : Shape := ⟨4, ![1, 32, 128, 128]⟩
abbrev S32x8192 : Shape := ⟨2, ![32, 8192]⟩
abbrev S32 : Shape := ⟨1, ![32]⟩
abbrev S32x1 : Shape := ⟨2, ![32, 1]⟩
abbrev S32x8191 : Shape := ⟨2, ![32, 8191]⟩
abbrev S1x8192 : Shape := ⟨2, ![1, 8192]⟩
abbrev S128x8192 : Shape := ⟨2, ![128, 8192]⟩
abbrev S128x128 : Shape := ⟨2, ![128, 128]⟩
abbrev S128 : Shape := ⟨1, ![128]⟩
abbrev S128x1 : Shape := ⟨2, ![128, 1]⟩
abbrev S1x1x128x128 : Shape := ⟨4, ![1, 1, 128, 128]⟩
abbrev S4x8x128x128 : Shape := ⟨4, ![4, 8, 128, 128]⟩

abbrev nBuf : Space → Nat
  | .hbm => 5
  | .vmem => 2
  | .smem => 0
  | _ => 0

abbrev bufTy : (tb : Table) → Fin (tcTables nBuf tb) → BufTy
  | .hbm, ⟨0, _⟩ => ⟨S4x8192x8, .f32⟩
  | .hbm, ⟨1, _⟩ => ⟨S4x8x8192, .f32⟩
  | .hbm, ⟨2, _⟩ => ⟨S1x32x8192, .f32⟩
  | .hbm, ⟨3, _⟩ => ⟨S1x32x128x128, .f32⟩
  | .hbm, ⟨4, _⟩ => ⟨S4x8x128x128, .f32⟩
  | .local _ .vmem, ⟨0, _⟩ => ⟨S1x32x8192, .f32⟩
  | .local _ .vmem, ⟨1, _⟩ => ⟨S1x32x128x128, .f32⟩
  | _, _ => ⟨S4x8192x8, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceIdeal.lean ====
abbrev S4x8192x8 : Shape := ⟨3, ![4, 8192, 8]⟩
abbrev S_ : Shape := ⟨0, ![]⟩
abbrev S4x8 : Shape := ⟨2, ![4, 8]⟩
abbrev S4x1x8 : Shape := ⟨3, ![4, 1, 8]⟩
abbrev S4x8x8192 : Shape := ⟨3, ![4, 8, 8192]⟩
abbrev S128 : Shape := ⟨1, ![128]⟩
abbrev S4x8x8192x1 : Shape := ⟨4, ![4, 8, 8192, 1]⟩
abbrev S1x1x1x128 : Shape := ⟨4, ![1, 1, 1, 128]⟩
abbrev S4x8x8192x128 : Shape := ⟨4, ![4, 8, 8192, 128]⟩
abbrev S4x8x8191x128 : Shape := ⟨4, ![4, 8, 8191, 128]⟩
abbrev S4x8x128x128 : Shape := ⟨4, ![4, 8, 128, 128]⟩
abbrev S4x8x128 : Shape := ⟨3, ![4, 8, 128]⟩
abbrev S4x8x128x1 : Shape := ⟨4, ![4, 8, 128, 1]⟩

abbrev nBuf : Space → Nat
  | .hbm => 83
  | .vmem => 0
  | .smem => 0
  | _ => 0

abbrev bufTy : (tb : Table) → Fin (tcTables nBuf tb) → BufTy
  | .hbm, ⟨0, _⟩ => ⟨S4x8192x8, .f32⟩
  | .hbm, ⟨1, _⟩ => ⟨S_, .f32⟩
  | .hbm, ⟨2, _⟩ => ⟨S4x8, .f32⟩
  | .hbm, ⟨3, _⟩ => ⟨S4x1x8, .f32⟩
  | .hbm, ⟨4, _⟩ => ⟨S_, .f32⟩
  | .hbm, ⟨5, _⟩ => ⟨S4x8, .f32⟩
  | .hbm, ⟨6, _⟩ => ⟨S4x1x8, .f32⟩
  | .hbm, ⟨7, _⟩ => ⟨S4x1x8, .f32⟩
  | .hbm, ⟨8, _⟩ => ⟨S_, .f32⟩
  | .hbm, ⟨9, _⟩ => ⟨S4x1x8, .f32⟩
  | .hbm, ⟨10, _⟩ => ⟨S4x1x8, .f32⟩
  | .hbm, ⟨11, _⟩ => ⟨S4x8192x8, .f32⟩
  | .hbm, ⟨12, _⟩ => ⟨S4x8192x8, .f32⟩
  | .hbm, ⟨13, _⟩ => ⟨S4x8192x8, .f32⟩
  | .hbm, ⟨14, _⟩ => ⟨S4x8192x8, .f32⟩
  | .hbm, ⟨15, _⟩ => ⟨S_, .f32⟩
  | .hbm, ⟨16, _⟩ => ⟨S4x8192x8, .f32⟩
  | .hbm, ⟨17, _⟩ => ⟨S4x8192x8, .f32⟩
  | .hbm, ⟨18, _⟩ => ⟨S_, .f32⟩
  | .hbm, ⟨19, _⟩ => ⟨S_, .i32⟩
  | .hbm, ⟨20, _⟩ => ⟨S_, .f32⟩
  | .hbm, ⟨21, _⟩ => ⟨S4x8192x8, .f32⟩
  | .hbm, ⟨22, _⟩ => ⟨S4x8192x8, .f32⟩
  | .hbm, ⟨23, _⟩ => ⟨S_, .f32⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S4x8192x8, .f32⟩
  | .hbm, ⟨28, _⟩ => ⟨S4x8192x8, .f32⟩
  | .hbm, ⟨29, _⟩ => ⟨S4x8x8192, .f32⟩
  | .hbm, ⟨30, _⟩ => ⟨S_, .f32⟩
  | .hbm, ⟨31, _⟩ => ⟨S_, .i32⟩
  | .hbm, ⟨32, _⟩ => ⟨S_, .f32⟩
  | .hbm, ⟨33, _⟩ => ⟨S4x8x8192, .f32⟩
  | .hbm, ⟨34, _⟩ => ⟨S4x8x8192, .f32⟩
  | .hbm, ⟨35, _⟩ => ⟨S_, .f32⟩
  | .hbm, ⟨36, _⟩ => ⟨S4x8x8192, .f32⟩
  | .hbm, ⟨37, _⟩ => ⟨S4x8x8192, .f32⟩
  | .hbm, ⟨38, _⟩ => ⟨S128, .f32⟩
  | .hbm, ⟨39, _⟩ => ⟨S4x8x8192x1, .f32⟩
  | .hbm, ⟨40, _⟩ => ⟨S1x1x1x128, .f32⟩
  | .hbm, ⟨41, _⟩ => ⟨S4x8x8192x128, .f32⟩
  | .hbm, ⟨42, _⟩ => ⟨S4x8x8192x128, .f32⟩
  | .hbm, ⟨43, _⟩ => ⟨S4x8x8192x128, .f32⟩
  | .hbm, ⟨44, _⟩ => ⟨S4x8x8192x128, .f32⟩
  | .hbm, ⟨45, _⟩ => ⟨S4x8x8192x128, .f32⟩
  | .hbm, ⟨46, _⟩ => ⟨S_, .f32⟩
  | .hbm, ⟨47, _⟩ => ⟨S4x8x8192x128, .f32⟩
  | .hbm, ⟨48, _⟩ => ⟨S4x8x8192x128, .f32⟩
  | .hbm, ⟨49, _⟩ => ⟨S_, .f32⟩
  | .hbm, ⟨50, _⟩ => ⟨S4x8x8192, .f32⟩
  | .hbm, ⟨51, _⟩ => ⟨S_, .f32⟩
  | .hbm, ⟨52, _⟩ => ⟨S4x8x8192, .f32⟩
  | .hbm, ⟨53, _⟩ => ⟨S4x8x8192, .f32⟩
  | .hbm, ⟨54, _⟩ => ⟨S4x8x8192x1, .f32⟩
  | .hbm, ⟨55, _⟩ => ⟨S4x8x8192x128, .f32⟩
  | .hbm, ⟨56, _⟩ => ⟨S4x8x8192x128, .f32⟩
  | .hbm, ⟨57, _⟩ => ⟨S4x8x8192x128, .f32⟩
  | .hbm, ⟨58, _⟩ => ⟨S_, .f32⟩
  | .hbm, ⟨59, _⟩ => ⟨S4x8x8192, .f32⟩
  | .hbm, ⟨60, _⟩ => ⟨S4x8x8192x1, .f32⟩
  | .hbm, ⟨61, _⟩ => ⟨S4x8x8192x128, .f32⟩
  | .hbm, ⟨62, _⟩ => ⟨S4x8x8192x128, .f32⟩
  | .hbm, ⟨63, _⟩ => ⟨S4x8x8192, .i32⟩
  | .hbm, ⟨64, _⟩ => ⟨S4x8x8192x1, .i32⟩
  | .hbm, ⟨65, _⟩ => ⟨S1x1x1x128, .i32⟩
  | .hbm, ⟨66, _⟩ => ⟨S4x8x8192x128, .i32⟩
  | .hbm, ⟨67, _⟩ => ⟨S4x8x8192x128, .i32⟩
  | .hbm, ⟨68, _⟩ => ⟨S4x8x8192x128, .i1⟩
  | .hbm, ⟨69, _⟩ => ⟨S4x8x8192x128, .f32⟩
  | .hbm, ⟨70, _⟩ => ⟨S4x8x8192x128, .f32⟩
  | .hbm, ⟨71, _⟩ => ⟨S4x8x8192x128, .f32⟩
  | .hbm, ⟨72, _⟩ => ⟨S4x8x8191x128, .f32⟩
  | .hbm, ⟨73, _⟩ => ⟨S4x8x8191x128, .f32⟩
  | .hbm, ⟨74, _⟩ => ⟨S4x8x128x128, .f32⟩
  | .hbm, ⟨75, _⟩ => ⟨S_, .f32⟩
  | .hbm, ⟨76, _⟩ => ⟨S4x8x128, .f32⟩
  | .hbm, ⟨77, _⟩ => ⟨S4x8x128x1, .f32⟩
  | .hbm, ⟨78, _⟩ => ⟨S_, .f32⟩
  | .hbm, ⟨79, _⟩ => ⟨S4x8x128x1, .f32⟩
  | .hbm, ⟨80, _⟩ => ⟨S4x8x128x1, .f32⟩
  | .hbm, ⟨81, _⟩ => ⟨S4x8x128x128, .f32⟩
  | .hbm, ⟨82, _⟩ => ⟨S4x8x128x128, .f32⟩
  | _, _ => ⟨S4x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_c_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_cst_8 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Proof.Chain.lean ====
/-
The mathematics of the problem for one sequence, with no program in sight.

A sequence `u` of 8192 extended reals is scaled into `[0, 127]` by its own least and greatest element and cut down to
whole numbers: the states. Pairs of neighbouring states are counted, and each row of counts is divided by its sum.
Both programs are shown to compute `prob`.
-/
module

public import Idealize.ShloMosaic.Lib.Pointwise

@[expose] public section

set_option maxRecDepth 16384

noncomputable section

namespace Cert.Chain

open Idealize.ShloMosaic

/-- The floor under both divisors: the real number that the single-precision pattern of `1e-8` stands for. -/
def eps : EReal := Ideal.ofBits .f32 0x322BCC77#32

/-- The least element of the sequence (from `+∞`). -/
def lo (u : Fin 8192 → EReal) : EReal := Finset.univ.fold min (Ideal.ofBits .f32 0x7F800000#32) u

/-- The greatest element of the sequence (from `-∞`). -/
def hi (u : Fin 8192 → EReal) : EReal := Finset.univ.fold max (Ideal.ofBits .f32 0xFF800000#32) u

/-- Element `l` scaled by the sequence's range to `[0, 127]`, and clipped to that interval. -/
def scaled (u : Fin 8192 → EReal) (l : Fin 8192) : EReal :=
  min ((127 : ℝ) : EReal)
    (max 0 (Ideal.div (u l - lo u) (max (hi u - lo u) eps) * Ideal.ofBits .f32 0x42FE0000#32))

/-- The state at time `l`: the whole part of the scaled element. -/
def state (u : Fin 8192 → EReal) (l : Fin 8192) : ℕ := ⌊(scaled u l).toReal⌋₊

/-- `1` where the state `n` is `s`, `0` elsewhere. -/
def hot (n s : ℕ) : EReal := if n = s then 1 else 0

/-- How often state `s` is followed at once by state `t`. -/
def pairCount (u : Fin 8192 → EReal) (s t : Fin 128) : EReal :=
  ∑ l : Fin 8191, hot (state u l.castSucc) s * hot (state u l.succ) t

/-- The transition probability from `s` to `t`: the count divided by its row's sum, the sum kept above `eps`. -/
def prob (u : Fin 8192 → EReal) (s t : Fin 128) : EReal :=
  Ideal.div (pairCount u s t) (max (∑ t' : Fin 128, pairCount u s t') eps)

/-- The clipped element is a real number between 0 and 127, whatever the sequence is. -/
theorem scaled_real (u : Fin 8192 → EReal) (l : Fin 8192) :
    ∃ r : ℝ, 0 ≤ r ∧ r ≤ 127 ∧ scaled u l = (r : EReal) := by
  have h0 : (0 : EReal) ≤ scaled u l :=
    le_min (by exact_mod_cast (by norm_num : (0 : ℝ) ≤ 127)) (le_max_left _ _)
  have h1 : scaled u l ≤ ((127 : ℝ) : EReal) := min_le_left _ _
  have hb : scaled u l ≠ ⊥ := fun h => by rw [h] at h0; exact absurd h0 (by simp)
  have ht : scaled u l ≠ ⊤ := fun h => by rw [h] at h1; exact absurd h1 (by simp)
  have he : ((scaled u l).toReal : EReal) = scaled u l := EReal.coe_toReal ht hb
  refine ⟨(scaled u l).toReal, ?_, ?_, he.symm⟩
  · exact EReal.coe_le_coe_iff.mp (by rw [he]; exact_mod_cast h0)
  · exact EReal.coe_le_coe_iff.mp (by rw [he]; exact h1)

/-- There are 128 states. -/
theorem state_lt (u : Fin 8192 → EReal) (l : Fin 8192) : state u l < 128 := by
  obtain ⟨r, h0, h1, e⟩ := scaled_real u l
  unfold state
  rw [e, EReal.toReal_coe, Nat.floor_lt h0]
  norm_num
  linarith

/-- The floor of the clipped element is the state, as a real number. -/
theorem floor_scaled (u : Fin 8192 → EReal) (l : Fin 8192) :
    Ideal.liftRound Int.floor (scaled u l) = ((state u l : ℝ) : EReal) := by
  obtain ⟨r, h0, _, e⟩ := scaled_real u l
  unfold state
  rw [e, EReal.toReal_coe, Ideal.liftRound_coe]
  congr 1
  rw [← natCast_floor_eq_intCast_floor h0]

/-- Converting a state, held as a real number, to a 32-bit integer gives the state's word. -/
theorem fptosi_nat {n : ℕ} (h : n < 128) : Ideal.fptosi 32 ((n : ℝ) : EReal) = BitVec.ofNat 32 n := by
  have h0 : (0 : ℝ) ≤ (n : ℝ) := Nat.cast_nonneg n
  show BitVec.ofInt 32 (max (-((2 ^ (32 - 1) : ℕ) : ℤ)) (min (((2 ^ (32 - 1) : ℕ) : ℤ) - 1)
    (if 0 ≤ (n : ℝ) then ⌊(n : ℝ)⌋ else ⌈(n : ℝ)⌉))) = _
  rw [if_pos h0, Int.floor_natCast, show max (-((2 ^ (32 - 1) : ℕ) : ℤ)) (min (((2 ^ (32 - 1) : ℕ) : ℤ) - 1) (n : ℤ)) = (n : ℤ) by
    norm_num; omega]
  exact BitVec.ofInt_natCast 32 n

/-- A real number subtracted and added again leaves a real number as it was. -/
theorem sub_add_self (a q : ℝ) : ((a : EReal) - (q : EReal)) + (q : EReal) = (a : EReal) := by
  rw [← EReal.coe_sub, ← EReal.coe_add, sub_add_cancel]

/-- Clipping a state to `[0, 127]` leaves it as it is. -/
theorem clip_nat {n : ℕ} (h : n < 128) :
    min ((127 : ℝ) : EReal) (max 0 ((n : ℝ) : EReal)) = ((n : ℝ) : EReal) := by
  have h0 : (0 : EReal) ≤ ((n : ℝ) : EReal) := by exact_mod_cast (Nat.cast_nonneg n : (0 : ℝ) ≤ n)
  have h1 : ((n : ℝ) : EReal) ≤ ((127 : ℝ) : EReal) := by
    refine EReal.coe_le_coe_iff.mpr ?_
    exact_mod_cast (by omega : n ≤ 127)
  rw [max_eq_right h0, min_eq_right h1]

/-- `hot` is a real number. -/
theorem hot_real (n s : ℕ) : ∃ a : ℝ, hot n s = (a : EReal) := by
  unfold hot
  split
  · exact ⟨1, rfl⟩
  · exact ⟨0, rfl⟩

/-- Two state words of 32 bits are equal exactly when the states are. -/
theorem word32_eq {n s : ℕ} (hn : n < 128) (hs : s < 128) : BitVec.ofNat 32 n = BitVec.ofNat 32 s ↔ n = s := by
  rw [← BitVec.toNat_inj, BitVec.toNat_ofNat, BitVec.toNat_ofNat]
  omega

/-- Two state words of 8 bits are equal exactly when the states are. -/
theorem word8_eq {n s : ℕ} (hn : n < 128) (hs : s < 128) : BitVec.ofNat 8 n = BitVec.ofNat 8 s ↔ n = s := by
  rw [← BitVec.toNat_inj, BitVec.toNat_ofNat, BitVec.toNat_ofNat]
  omega

/-- A choice by an equality of words is a choice by the equality itself. -/
theorem select_eq {α : Type} {w : ℕ} (a b : BitVec w) (x y : α) :
    Scalar.select (IntOp.cmpi .eq a b) x y = if a = b then x else y := by
  by_cases h : a = b
  · subst h; simp [Scalar.select, IntOp.cmpi]
  · have hb : (a == b) = false := beq_eq_false_iff_ne.mpr h
    simp [Scalar.select, IntOp.cmpi, h, hb]

/-- The 8-bit float pattern of one. -/
theorem fp8_one : Ideal.ofBits .fp8e4m3 0x38#8 = 1 := by
  simp [Ideal.ofBits, Ideal.e4m3fn, -EReal.coe_mul]; norm_num

/-- The 8-bit float pattern of zero. -/
theorem fp8_zero : Ideal.ofBits .fp8e4m3 0x00#8 = 0 := by
  simp [Ideal.ofBits, Ideal.e4m3fn]

/-- The 8-bit comparison of two states, turned into an 8-bit float, is `hot`. -/
theorem hot_word8 {n s : ℕ} (hn : n < 128) (hs : s < 128) :
    Scalar.select (IntOp.cmpi .eq (BitVec.ofNat 8 n) (BitVec.ofNat 8 s))
      (Ideal.ofBits .fp8e4m3 0x38#8) (Ideal.ofBits .fp8e4m3 0x00#8) = hot n s := by
  rw [select_eq, fp8_one, fp8_zero]
  unfold hot
  simp only [word8_eq hn hs]

/-- The word `-1` is no state. -/
theorem hot_none {s : ℕ} (hs : s < 128) :
    Scalar.select (IntOp.cmpi .eq (255#8) (BitVec.ofNat 8 s))
      (Ideal.ofBits .fp8e4m3 0x38#8) (Ideal.ofBits .fp8e4m3 0x00#8) = (0 : EReal) := by
  rw [select_eq, fp8_zero, if_neg]
  rw [← BitVec.toNat_inj, BitVec.toNat_ofNat, BitVec.toNat_ofNat]
  omega

/-- The 32-bit comparison of two states, turned into a float, is `hot`. -/
theorem hot_word32 {n s : ℕ} (hn : n < 128) (hs : s < 128) :
    (((IntOp.cmpi .eq (BitVec.ofNat 32 n) (BitVec.ofNat 32 s)).toNat : ℝ) : EReal) = hot n s := by
  unfold hot
  by_cases h : n = s
  · subst h; simp [IntOp.cmpi]
  · have h' : ¬ BitVec.ofNat 32 n = BitVec.ofNat 32 s := fun e => h ((word32_eq hn hs).mp e)
    have hb : (BitVec.ofNat 32 n == BitVec.ofNat 32 s) = false := beq_eq_false_iff_ne.mpr h'
    simp [IntOp.cmpi, hb, h]

end Cert.Chain

end

end
-- ==== Proof.Block.lean ====
/-
What one block of the kernel computes. The kernel's one grid point reads a block of 32 sequences of 8192 elements and
stores 32 tables of 128 by 128; table `f` holds the transition probabilities of sequence `f`.
-/
module

public import proofs.«01_k».proof.Proof.Gen.KernelIdeal.Frame
public import proofs.«01_k».proof.Proof.Chain
public import Idealize.ShloMosaic.Lib.Pipeline.ValueKit

@[expose] public section

set_option maxRecDepth 16384

noncomputable section

namespace Cert.KernelBlock

open Idealize.ShloMosaic Idealize.ShloMosaic.TcCoe Idealize.SL.Sem
open Cert.KernelIdeal Cert.KernelIdeal.Gen
open Cert.Chain

/-- Sequence `f` of a block of 32. -/
abbrev seqOf (x : Vec Ideal S1x32x8192 .f32) (f : Fin 32) : Fin 8192 → EReal := fun l => x (ix3 0 f l)

/-- The kernel's whole-number states are the states of each sequence. -/
theorem states_apply (x : Vec Ideal S1x32x8192 .f32) (f : Fin 32) (l : Fin 8192) :
    k0_pay2 (F := Ideal) x (ix2 f l) = BitVec.ofNat 32 (state (seqOf x f) l) := by
  rw [← fptosi_nat (state_lt (seqOf x f) l), ← floor_scaled]
  pointwise [k0_pay2, scaled, lo, hi, eps]
  rw [show (((127#32).toInt : ℝ)) = (127 : ℝ) by
    rw [show (127#32).toInt = 127 from by decide]; norm_num]
  rfl

/-- The kernel's first one-hot input as 8-bit words: the states, and `-1` at the last time. -/
theorem fromWords_apply (x : Vec Ideal S1x32x8192 .f32) (f : Fin 32) (l : Fin 8192) :
    k0_pay3 (F := Ideal) x (ix2 f l)
      = if (l : ℕ) < 8191 then BitVec.ofNat 8 (state (seqOf x f) l) else 255#8 := by
  pointwise [k0_pay3]
  rw [states_apply]
  word_cmp
  split
  · simp
  · rfl

/-- The kernel's second one-hot input as 8-bit words: the states one step later (and the first state at the end). -/
theorem toWords_apply (x : Vec Ideal S1x32x8192 .f32) (f : Fin 32) (l : Fin 8191) :
    k0_pay4 (F := Ideal) x (ix2 f l.castSucc) = BitVec.ofNat 8 (state (seqOf x f) l.succ) := by
  pointwise [k0_pay4]
  rw [dif_pos (show ((l.castSucc : Fin 8192) : ℕ) < 8191 from l.isLt), states_apply]
  rw [show (⟨1 + (l.castSucc : ℕ), by have := l.isLt; simp; omega⟩ : Fin 8192) = l.succ from
    Fin.ext (by simp; omega)]
  exact BitVec.setWidth_ofNat_of_le (by omega) _

/-- Row `k` of the words compared with every state: 128 rows of one-hot 8-bit floats. -/
def rowHot (k : ℕ) (h : S32x8192.Slices ![k, 0] S1x8192) (v : IVec S32x8192 8) (w : IVec S128x8192 8) :
    FVec Ideal S128x8192 .fp8e4m3 :=
  select (cmpi .eq (broadcastTo S128x8192 (extractStridedSlice S1x8192 ![k, 0] v h) broadcasts_S1x8192_S128x8192) w)
    (broadcast S128x8192 (Scalar.ofBits .fp8e4m3 0x38#8)) (broadcast S128x8192 (Scalar.ofBits .fp8e4m3 0x00#8))

/-- A one-hot row at a state and a time: the word of the row at that time compared with the state. -/
theorem rowHot_apply (k : ℕ) (h : S32x8192.Slices ![k, 0] S1x8192) (v : IVec S32x8192 8) (f : Fin 32)
    (hf : (f : ℕ) = k) (s : Fin 128) (l : Fin 8192) :
    rowHot k h v k0_pay5 (ix2 s l)
      = Scalar.select (IntOp.cmpi .eq (v (ix2 f l)) (BitVec.ofNat 8 s))
          (Ideal.ofBits .fp8e4m3 0x38#8) (Ideal.ofBits .fp8e4m3 0x00#8) := by
  subst hf
  pointwise [rowHot, k0_pay5]
  rw [BitVec.setWidth_ofNat_of_le (by omega)]

/-- The table made of two one-hot arrays: their product over time, each row divided by its sum. -/
def table (a b : FVec Ideal S128x8192 .fp8e4m3) : FVec Ideal S1x1x128x128 .f32 :=
  have c : FVec Ideal S128x128 .f32 :=
    matmul dot_S128x8192_S128x8192_S128x128_1_1_0_0_n_n none a b (constant S128x128 .f32 0x00000000#32)
  have r : FVec Ideal S128x1 .f32 := shapeCast S128x1
    (multiReduction .add [1] S128 c 0x00000000#32 reduces_S128x128_S128 (.inl rfl) rfl) shapeCasts_S128_S128x1
  shapeCast S1x1x128x128
    (divf c (broadcastTo S128x128 (maximumf r (broadcast S128x1 (Scalar.ofBits .f32 0x322BCC77#32)))
      broadcasts_S128x1_S128x128)) shapeCasts_S128x128_S1x1x128x128

/-- The table at an entry. -/
theorem table_apply (a b : FVec Ideal S128x8192 .fp8e4m3) (s t : Fin 128) :
    table a b (ix4 0 0 s t)
      = Ideal.div (∑ l : Fin 8192, a (ix2 s l) * b (ix2 t l))
          (max (∑ t' : Fin 128, ∑ l : Fin 8192, a (ix2 s l) * b (ix2 t' l)) eps) := by
  pointwise [table, eps]

/-- The product over time of the two one-hot rows counts the transitions: the last of the 8192 times adds nothing. -/
theorem sum_rowHot (x : Vec Ideal S1x32x8192 .f32) (k : ℕ) (h : S32x8192.Slices ![k, 0] S1x8192) (f : Fin 32)
    (hf : (f : ℕ) = k) (s t : Fin 128) :
    ∑ l : Fin 8192, rowHot k h (k0_pay3 (F := Ideal) x) k0_pay5 (ix2 s l)
        * rowHot k h (k0_pay4 (F := Ideal) x) k0_pay5 (ix2 t l) = pairCount (seqOf x f) s t := by
  rw [Fin.sum_univ_castSucc (n := 8191)]
  have hlast : rowHot k h (k0_pay3 (F := Ideal) x) k0_pay5 (ix2 s (Fin.last 8191)) = (0 : EReal) := by
    rw [rowHot_apply k h _ f hf, fromWords_apply, if_neg (by simp), hot_none s.isLt]
  rw [hlast, zero_mul, add_zero]
  unfold pairCount
  refine Finset.sum_congr rfl fun l _ => ?_
  rw [rowHot_apply k h _ f hf, rowHot_apply k h _ f hf, fromWords_apply, toWords_apply,
    if_pos (show ((l.castSucc : Fin 8192) : ℕ) < 8191 from l.isLt),
    hot_word8 (state_lt _ _) s.isLt, hot_word8 (state_lt _ _) t.isLt]

/-- Table `k` at an entry is the transition probability of sequence `k`. -/
theorem table_rowHot (x : Vec Ideal S1x32x8192 .f32) (k : ℕ) (h : S32x8192.Slices ![k, 0] S1x8192)
    (i : S1x1x128x128.Idx) (f : Fin 32) (hf : (f : ℕ) = k) :
    table (rowHot k h (k0_pay3 (F := Ideal) x) k0_pay5) (rowHot k h (k0_pay4 (F := Ideal) x) k0_pay5) i
      = prob (seqOf x f) (i 2) (i 3) := by
  obtain ⟨s, t, rfl⟩ : ∃ s t : Fin 128, i = ix4 0 0 s t := ⟨i 2, i 3, by
    rw [eq_ix4 i]
    congr 1 <;> exact Subsingleton.elim _ _⟩
  rw [table_apply]
  unfold prob
  simp only [sum_rowHot x k h f hf]
  rfl

/-- The block's result, by index: the transition probabilities of the sequence the second coordinate names. -/
def blockProb (x : Vec Ideal S1x32x8192 .f32) : Vec Ideal S1x32x128x128 .f32 :=
  fun y => prob (seqOf x (y 1)) (y 2) (y 3)

/-- Table `k`, stored at row `k` of the result, agrees there with `blockProb`. -/
theorem piece (x : Vec Ideal S1x32x8192 .f32) (k : ℕ) (h : S32x8192.Slices ![k, 0] S1x8192)
    (i : S1x1x128x128.Idx) (y : S1x32x128x128.Idx) (h1 : (y 1 : ℕ) = k + (i 1 : ℕ)) (h2 : (y 2 : ℕ) = (i 2 : ℕ))
    (h3 : (y 3 : ℕ) = (i 3 : ℕ)) :
    table (rowHot k h (k0_pay3 (F := Ideal) x) k0_pay5) (rowHot k h (k0_pay4 (F := Ideal) x) k0_pay5) i
      = blockProb x y := by
  have hi : (i 1 : ℕ) < 1 := (i 1).isLt
  rw [table_rowHot x k h i (y 1) (by omega)]
  unfold blockProb
  rw [show (y 2 : Fin 128) = i 2 from Fin.ext h2, show (y 3 : Fin 128) = i 3 from Fin.ext h3]

/-- What the body leaves in the result's block is `blockProb` of the block it read. -/
theorem out_eq (x : Vec Ideal S1x32x8192 .f32) : out0_1 (F := Ideal) x = blockProb x := by
  funext y
  unfold_out out0_1
  have hx : View.ld x r0_0 = x := View.ld_unit_zero (by funext a; fin_cases a <;> rfl) _ _
  simp only [hx]
  canon_tiles i h
  all_goals
    refine piece x _ ?_ i y ?_ h2 h3
    omega

end Cert.KernelBlock

end

end
-- ==== Proof.Array.lean ====
/-
What the kernel's result holds. The input is transposed and reshaped so that row `8 * b + d` of the kernel's operand
is the sequence `x[b, :, d]`; the one grid point computes every row's table; the array of tables is reshaped to the result.
-/
module

public import Idealize.ShloMosaic.Lib.Pipeline.ValueKit
public import Idealize.ShloMosaic.Lib.Claim
public import proofs.«01_k».proof.Proof.Gen.KernelIdeal.Frame
public import proofs.«01_k».proof.Proof.Block

@[expose] public section

set_option maxRecDepth 16384

noncomputable section

namespace Cert.KernelTable

open Idealize.ShloMosaic Idealize.ShloMosaic.TcCoe Idealize.SL.Sem
open Cert.KernelIdeal Cert.KernelIdeal.Gen
open Cert.Chain Cert.KernelBlock

/-- The kernel's operand: the input with time last, its batch and feature axes joined into rows. -/
def rows (x : FVec Ideal S4x8192x8 .f32) : FVec Ideal S1x32x8192 .f32 :=
  shapeCast S1x32x8192 (transpose S4x8x8192 [0, 2, 1] x transposes_S4x8192x8_S4x8x8192_0_2_1)
    shapeCasts_S4x8x8192_S1x32x8192

/-- Row `8 * b + d` of the operand is the sequence of batch entry `b` and feature `d`. -/
theorem rows_apply (x : FVec Ideal S4x8192x8 .f32) (b : Fin 4) (d : Fin 8) (h : 8 * (b : ℕ) + d < 32) (l : Fin 8192) :
    rows x (ix3 0 ⟨8 * (b : ℕ) + d, h⟩ l) = x (ix3 b l d) := by
  pointwise [rows]

/-- The array of tables, reshaped to one table per batch entry and feature. -/
def tables (x : FVec Ideal S4x8192x8 .f32) : FVec Ideal S4x8x128x128 .f32 :=
  shapeCast S4x8x128x128 (blockProb (rows x)) shapeCasts_S1x32x128x128_S4x8x128x128

/-- Entry `(b, d, s, t)` of the kernel's result. -/
theorem tables_apply (x : FVec Ideal S4x8192x8 .f32) (b : Fin 4) (d : Fin 8) (s t : Fin 128) :
    tables x (ix4 b d s t) = prob (fun l => x (ix3 b l d)) s t := by
  have h : 8 * (b : ℕ) + d < 32 := by omega
  rw [← funext (rows_apply x b d h)]
  pointwise [tables]
  simp only [Nat.mul_comm (b : ℕ) 8]
  rfl

variable (m : (ℓ : Loc nD τ sig) → Buf (Elt Ideal) ℓ)

/-- Both windows have one block, at the origin. -/
theorem origin : ∀ t : Fin cfg0.N, win0_0.index t = ![0, 0, 0] ∧ win0_1.index t = ![0, 0, 0, 0] :=
  (by decide +kernel : ∀ t : Fin grid0.N, _)

/-- The region is entered with the operand's array holding the rows. -/
theorem operand (c : Dev nD) : V m c main_v1 = rows (m ((c : Thread nD τ).loc main_arg0)) := by
  entry_read
  rfl

/-- The one block of the operand is the whole of it. -/
theorem block (c : Dev nD) (t : Fin cfg0.N) : iblk m c 0 t = rows (m ((c : Thread nD τ).loc main_arg0)) := by
  rw [← operand]
  blk_ext! [iblk, origin t]

/-- The result array of the region: every row's table. -/
theorem final (c : Dev nD) : (dats m 0 c).arrAt 1 (cfgs 0).N = blockProb (rows (m ((c : Thread nD τ).loc main_arg0))) := by
  refine (dats m 0 c).arrAt_eq_of_after_last 1 t0_0 (by decide +kernel) _ fun j => ?_
  blk_simp
  rw [after0_1, block, out_eq]

/-- The result after the last reshape. -/
theorem result (c : Dev nD) : Pipeline.afterTail₀ cfgs (dats m) 0 (V0 m) [hostOps1] c main_v3
    = tables (m ((c : Thread nD τ).loc main_arg0)) := by
  unfold Pipeline.afterTail₀
  simp only [List.flatten_cons, List.flatten_nil, List.append_nil]
  after_results
  have h : Pipeline.withArrays (cfgs 0).spec c (V0 m c) (fun w => (dats m 0 c).arrAt w (cfgs 0).N)
      (Proc.tc.devRef main_v2) = (dats m 0 c).arrAt 1 (cfgs 0).N :=
    Pipeline.withArrays_arr _ launch0.win.arr_inj c _ _ 1
  rw [h, final]
  rfl

end Cert.KernelTable

end

end
-- ==== Proof.Soft.lean ====
/-
The soft assignment of the reference: a softmax over the 128 states. It is added to the hard assignment and taken off
again, so all that matters of it is that it is a real number.
-/
module

public import proofs.«01_k».proof.Proof.Chain

@[expose] public section

set_option maxRecDepth 16384

noncomputable section

namespace Cert.Chain

open Idealize.ShloMosaic

/-- The temperature, `1e-4` in single precision, is a real number and not zero. -/
theorem temperature_real : ∃ c : ℝ, c ≠ 0 ∧ Ideal.ofBits .f32 0x38D1B717#32 = (c : EReal) := by
  refine ⟨13743895 / 2 ^ 37, by norm_num, ?_⟩
  simp [Ideal.ofBits, Ideal.ieee, -EReal.coe_mul]
  norm_num

/-- A real number divided by a real number other than zero is a real number. -/
theorem div_real (a : ℝ) {c : ℝ} (h : c ≠ 0) : ∃ q : ℝ, Ideal.div (a : EReal) (c : EReal) = (q : EReal) := by
  refine ⟨a * c⁻¹, ?_⟩
  unfold Ideal.div
  rw [if_neg (by exact_mod_cast h), EReal.coe_mul, EReal.coe_inv]

/-- The greatest of 128 real numbers, taken from `-∞`, is a real number. -/
theorem fold_max_real (a : Fin 128 → EReal) (h : ∀ k, ∃ r : ℝ, a k = (r : EReal)) :
    ∃ r : ℝ, Finset.univ.fold max (⊥ : EReal) a = (r : EReal) := by
  have ht : Finset.univ.fold max (⊥ : EReal) a ≠ ⊤ := by
    refine ne_of_lt ((Finset.fold_max_lt _).mpr ⟨bot_lt_top, fun k _ => ?_⟩)
    obtain ⟨r, e⟩ := h k
    rw [e]; exact EReal.coe_lt_top r
  have hb : Finset.univ.fold max (⊥ : EReal) a ≠ ⊥ := by
    refine ne_of_gt ((Finset.lt_fold_max _).mpr (Or.inr ⟨0, Finset.mem_univ _, ?_⟩))
    obtain ⟨r, e⟩ := h 0
    rw [e]; exact EReal.bot_lt_coe r
  exact ⟨_, (EReal.coe_toReal ht hb).symm⟩

/-- The softmax of 128 real numbers is a real number: the exponentials are positive reals, and so is their sum. -/
theorem softmax_real (a : Fin 128 → EReal) (h : ∀ k, ∃ r : ℝ, a k = (r : EReal)) (m : ℝ) (s : Fin 128) :
    ∃ q : ℝ, Ideal.div (Ideal.exp (a s - (m : EReal))) (0 + ∑ k, Ideal.exp (a k - (m : EReal))) = (q : EReal) := by
  choose r hr using h
  have he : ∀ k, Ideal.exp (a k - (m : EReal)) = ((Real.exp (r k - m) : ℝ) : EReal) := fun k => by
    rw [hr k, ← EReal.coe_sub, Ideal.exp_coe]
  have hsum : ∑ k, Ideal.exp (a k - (m : EReal)) = ((∑ k, Real.exp (r k - m) : ℝ) : EReal) := by
    rw [Finset.sum_congr rfl fun k _ => he k]
    exact (map_sum (⟨⟨Real.toEReal, EReal.coe_zero⟩, EReal.coe_add⟩ : ℝ →+ EReal) _ _).symm
  have hpos : (∑ k : Fin 128, Real.exp (r k - m)) ≠ 0 :=
    ne_of_gt (Finset.sum_pos (fun k _ => Real.exp_pos _) ⟨0, Finset.mem_univ _⟩)
  rw [he s, hsum, zero_add]
  exact div_real _ hpos

/-- The logit of state `k` at a whole number `n`, minus the square of their distance over the temperature, is real. -/
theorem logit_real (n k : ℝ) :
    ∃ r : ℝ, Ideal.div (-(((n : EReal) - (k : EReal)) * ((n : EReal) - (k : EReal))))
      (Ideal.ofBits .f32 0x38D1B717#32) = (r : EReal) := by
  obtain ⟨c, hc, e⟩ := temperature_real
  rw [e, ← EReal.coe_sub, ← EReal.coe_mul, ← EReal.coe_neg]
  exact div_real _ hc

end Cert.Chain

end

end
-- ==== Proof.Reference.lean ====
/-
What the reference computes: entry `(b, d, s, t)` of its result is the transition probability from `s` to `t` of the
sequence `x[b, :, d]`.

The reference passes through a soft assignment and a floor by the pattern `(hard - soft) + soft`. Over the reals that is
`hard`, once `soft` is known to be a real number; the proof shows so at both places.
-/
module

public import proofs.«01_k».proof.Proof.Gen.ReferenceIdeal.Read
public import proofs.«01_k».proof.Proof.Soft

@[expose] public section

set_option maxRecDepth 16384

noncomputable section

namespace Cert.ReferenceTable

open Idealize.ShloMosaic Idealize.ShloMosaic.TcCoe
open Cert.ReferenceIdeal Cert.ReferenceIdeal.Read
open Cert.Chain

/-- The sequence of batch entry `b` and feature `d`. -/
abbrev seqAt (x : FVec Ideal S4x8192x8 .f32) (b : Fin 4) (d : Fin 8) : Fin 8192 → EReal := fun l => x (ix3 b l d)

/-- The integer 127 as a real number. -/
theorem float_127 : (FloatOps.sitofp (F := Ideal) .f32 127#32 : EReal) = ((127 : ℝ) : EReal) := by
  show (((127#32).toInt : ℝ) : EReal) = _
  rw [show (127#32).toInt = 127 from by decide]; norm_num

/-- The reference's clipped, scaled input. -/
theorem scaled_apply (x : FVec Ideal S4x8192x8 .f32) (b : Fin 4) (l : Fin 8192) (d : Fin 8) :
    val_main_v13 (F := Ideal) x (ix3 b l d) = scaled (seqAt x b d) l := by
  pointwise [val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1, val_main_cst_2, val_main_cst_3, val_main_c, val_main_call0_v0,
    val_main_call0_v1, val_main_call0_v2, val_main_call0_v3, val_main_call0_v4, id_eq]
  rw [float_127]
  rfl

/-- The reference's state, kept as a float: the floor of the scaled input, taken through `(floor - x) + x` and clipped
    once more. -/
theorem state_apply (x : FVec Ideal S4x8192x8 .f32) (b : Fin 4) (d : Fin 8) (l : Fin 8192) :
    val_main_v18 (F := Ideal) x (ix3 b d l) = ((state (seqAt x b d) l : ℝ) : EReal) := by
  obtain ⟨r, _, _, hr⟩ := scaled_real (seqAt x b d) l
  pointwise [val_main_v18, val_main_v17, val_main_v16, val_main_v15, val_main_v14, val_main_c_5, val_main_cst_4,
    val_main_call1_v0, val_main_call1_v1, val_main_call1_v2, val_main_call1_v3, val_main_call1_v4, id_eq]
  rw [float_127, scaled_apply, floor_scaled, hr, sub_add_self]
  exact clip_nat (state_lt _ _)

/-- The reference's one-hot encoding of the state. -/
theorem hard_apply (x : FVec Ideal S4x8192x8 .f32) (b : Fin 4) (d : Fin 8) (l : Fin 8192) (s : Fin 128) :
    val_main_v41 (F := Ideal) x (ix4 b d l s) = hot (state (seqAt x b d) l) s := by
  rw [← hot_word32 (state_lt _ _) s.isLt, ← fptosi_nat (state_lt (seqAt x b d) l), ← state_apply]
  pointwise [val_main_v41, val_main_v40, val_main_call2_v0, val_main_call2_v1, val_main_call2_v2, val_main_call2_v3,
    val_main_call2_v4]
  rfl

/-- The logit of state `k` at a time is a real number. -/
theorem logit_apply (x : FVec Ideal S4x8192x8 .f32) (b : Fin 4) (d : Fin 8) (l : Fin 8192) (k : Fin 128) :
    ∃ r : ℝ, val_main_v28 (F := Ideal) x (ix4 b d l k) = (r : EReal) := by
  obtain ⟨r, hr⟩ := logit_real (state (seqAt x b d) l) ((BitVec.ofNat 32 (k : ℕ)).toInt)
  refine ⟨r, ?_⟩
  rw [← hr, ← state_apply]
  pointwise [val_main_v28, val_main_v27, val_main_v26, val_main_v25, val_main_v24, val_main_v23, val_main_v22,
    val_main_v21, val_main_v20, val_main_v19, val_main_cst_6]
  rfl

/-- The greatest entry of a row, as the reference takes it, is a real number when the row's entries are. -/
theorem top_real (y : FVec Ideal S4x8x8192x128 .f32) (b : Fin 4) (d : Fin 8) (l : Fin 8192)
    (h : ∀ k, ∃ r : ℝ, y (ix4 b d l k) = (r : EReal)) :
    ∃ r : ℝ, Host.reduce FloatOps.maximumf y (val_main_cst_7 (F := Ideal)) Gen.reducesTo_S4x8x8192x128_S4x8x8192_d3 Gen.h_S_
      (ix3 b d l) = (r : EReal) := by
  obtain ⟨r, hr⟩ := fold_max_real (fun k => y (ix4 b d l k)) h
  refine ⟨r, ?_⟩
  pointwise [val_main_cst_7]
  rw [show Ideal.ofBits .f32 0xFF800000#32 = (⊥ : EReal) by simp [Ideal.ofBits, Ideal.ieee]]
  exact hr

/-- The greatest logit at a time is a real number. -/
theorem top_apply (x : FVec Ideal S4x8192x8 .f32) (b : Fin 4) (d : Fin 8) (l : Fin 8192) :
    ∃ r : ℝ, val_main_v31 (F := Ideal) x (ix3 b d l) = (r : EReal) := by
  obtain ⟨r, hr⟩ := top_real (val_main_v28 (F := Ideal) x) b d l (logit_apply x b d l)
  refine ⟨r, ?_⟩
  rw [val_main_v31_apply, val_main_v29, hr, val_main_v30_apply, val_main_cst_8_apply]
  show max (Ideal.ofBits .f32 0xFF800000#32) (r : EReal) = r
  rw [show Ideal.ofBits .f32 0xFF800000#32 = (⊥ : EReal) by simp [Ideal.ofBits, Ideal.ieee]]
  exact max_eq_right bot_le

/-- The soft assignment is a real number. -/
theorem soft_apply (x : FVec Ideal S4x8192x8 .f32) (b : Fin 4) (d : Fin 8) (l : Fin 8192) (s : Fin 128) :
    ∃ q : ℝ, val_main_v39 (F := Ideal) x (ix4 b d l s) = (q : EReal) := by
  obtain ⟨m, hm⟩ := top_apply x b d l
  obtain ⟨q, hq⟩ := softmax_real (fun k => val_main_v28 (F := Ideal) x (ix4 b d l k)) (logit_apply x b d l) m s
  refine ⟨q, ?_⟩
  rw [← hq, ← hm]
  pointwise [val_main_v39, val_main_v38, val_main_v37, val_main_v36, val_main_v35, val_main_v34, val_main_v33,
    val_main_v32, val_main_cst_9]

/-- The assignment the reference counts with is the one-hot encoding of the state. -/
theorem assign_apply (x : FVec Ideal S4x8192x8 .f32) (b : Fin 4) (d : Fin 8) (l : Fin 8192) (s : Fin 128) :
    val_main_v43 (F := Ideal) x (ix4 b d l s) = hot (state (seqAt x b d) l) s := by
  obtain ⟨q, hq⟩ := soft_apply x b d l s
  obtain ⟨a, ha⟩ := hot_real (state (seqAt x b d) l) s
  pointwise [val_main_v43, val_main_v42]
  rw [hard_apply, hq, ha, sub_add_self]

/-- The reference's table of counts. -/
theorem count_apply (x : FVec Ideal S4x8192x8 .f32) (b : Fin 4) (d : Fin 8) (s t : Fin 128) :
    val_main_v46 (F := Ideal) x (ix4 b d s t) = pairCount (seqAt x b d) s t := by
  pointwise [val_main_v46, val_main_v45, val_main_v44]
  unfold pairCount
  refine Finset.sum_congr rfl fun l _ => ?_
  rw [assign_apply, assign_apply, show (⟨1 + (l : ℕ), by omega⟩ : Fin 8192) = l.succ from Fin.ext (Nat.add_comm 1 l)]
  rfl

/-- Entry `(b, d, s, t)` of the reference's result. -/
theorem result_apply (x : FVec Ideal S4x8192x8 .f32) (b : Fin 4) (d : Fin 8) (s t : Fin 128) :
    val_main_v52 (F := Ideal) x (ix4 b d s t) = prob (seqAt x b d) s t := by
  pointwise [val_main_v52, val_main_v51, val_main_v50, val_main_v49, val_main_v48, val_main_v47, val_main_cst_10,
    val_main_cst_11]
  simp only [count_apply]
  rfl

end Cert.ReferenceTable

end

end
-- ==== Proof.Equation.lean ====
/-
The equation: on every input the kernel's result and the reference's are the same array.
-/
module

public import proofs.«01_k».proof.Proof.Array
public import proofs.«01_k».proof.Proof.Reference

@[expose] public section

set_option maxRecDepth 16384

noncomputable section

namespace Cert.Equation

open Idealize.ShloMosaic

/-- The reference's array is the kernel's: at every entry both are the same transition probability. -/
theorem reference_eq (x : FVec Ideal Cert.KernelIdeal.S4x8192x8 .f32) :
    Cert.ReferenceIdeal.Read.val_main_v52 (F := Ideal) x = Cert.KernelTable.tables x := by
  funext i
  idx_vars i
  exact (Cert.ReferenceTable.result_apply x _ _ _ _).trans (Cert.KernelTable.tables_apply x _ _ _ _).symm

end Cert.Equation

end

end
-- ==== Proof.lean ====
/-
The certificate: both programs of the kernel and the reference run and leave their argument as it was; the
idealization is the kernel; and over the reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

section Kernel

open Cert.KernelIdeal Cert.KernelIdeal.Gen

/-- The kernel's run: its result is the array of tables of its argument, and the argument is unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.KernelTable.tables (m ((c.tc : Thread nD τ).loc main_arg0))
      ∧ r.2.mem ((c.tc : Thread nD τ).loc main_arg0) = m ((c.tc : Thread nD τ).loc main_arg0) :=
  (θ_run defs _ _).mono
    (fun _ h c => ⟨((h.1 c).2 main_v3 (Pipeline.mem_restRefs_of main_v3 (by decide) (by decide))).trans
      (Cert.KernelTable.result m c), h.2 c⟩)
    (θ_run_and (run_main m ρ) (unchanged m ρ))

end Kernel

/-- The reference runs and leaves its argument as it was. It has no semaphores, so every counter ends at zero. -/
theorem reference_frame : Cert.quiescent_ReferenceIdeal (hReferenceIdeal := Cert.ReferenceIdeal.Gen.facts) := by
  intro m g _
  have hnone : Cert.ReferenceIdeal.sig.nSem + Cert.ReferenceIdeal.sig.nDmaSem = 0 := by decide
  refine (θ_run _ _ _).mono (fun r h => ?_) (Cert.ReferenceIdeal.Value.run m g)
  exact ⟨fun c => (h c).2, sem_eq_zero_of_no_sems hnone r.2⟩

/-- Over the reals, from memories that agree on the argument, the kernel and the reference end with equal results. -/
theorem equal_results : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelTable.tables (m ((c.tc : Thread _ _).loc Cert.KernelIdeal.main_arg0)), kernel_run m g,
    (θ_run _ _ _).mono (fun _ h c => ⟨(h c).1.trans ?_, (h c).2⟩) (Cert.ReferenceIdeal.Value.run m' g')⟩
  refine (Cert.ReferenceIdeal.Read.val_main_v52_eq (StableHlo.launchContents m' c)).trans ?_
  refine (congrArg (Cert.ReferenceIdeal.Read.val_main_v52 (F := Ideal)) (hagree c)).trans ?_
  exact Cert.Equation.reference_eq _

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    equal_results⟩

end Cert.Proof

end

end
